-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_categories_in_range [hPre_categories_in_range : Cert.Pre_categories_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_categories_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_categories_in_range [hPre_categories_in_range : Cert.Pre_categories_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_categories_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_categories_in_range [hKernelIdeal : Cert.KernelIdeal.Facts] [hPre_categories_in_range : Cert.Pre_categories_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_categories_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_categories_in_range [hReferenceIdeal : Cert.ReferenceIdeal.Facts] [hPre_categories_in_range : Cert.Pre_categories_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_categories_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)
  ∧ IdealRules.named_const.Statement Cert.KernelIdeal.κ "mask" .f32 0xC69C4000#32 ⊥

def algebraic_KernelIdeal_ReferenceIdeal_pre_categories_in_range [hKernelIdeal : Cert.KernelIdeal.Facts] [hReferenceIdeal : Cert.ReferenceIdeal.Facts] [hPre_categories_in_range : Cert.Pre_categories_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_categories_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_categories_in_range : Cert.Pre_categories_in_range.Facts),
    quiescent_Kernel (hKernel := hKernel)
    ∧ quiescent_KernelIdeal (hKernelIdeal := hKernelIdeal)
    ∧ quiescent_KernelIdeal_pre_categories_in_range (hKernelIdeal := hKernelIdeal) (hPre_categories_in_range := hPre_categories_in_range)
    ∧ quiescent_ReferenceIdeal (hReferenceIdeal := hReferenceIdeal)
    ∧ quiescent_ReferenceIdeal_pre_categories_in_range (hReferenceIdeal := hReferenceIdeal) (hPre_categories_in_range := hPre_categories_in_range)
    ∧ preserves_Kernel_KernelIdeal
    ∧ algebraic_KernelIdeal_ReferenceIdeal_pre_categories_in_range (hKernelIdeal := hKernelIdeal) (hReferenceIdeal := hReferenceIdeal) (hPre_categories_in_range := hPre_categories_in_range)
-- ==== Pre_categories_in_range.lean ====
abbrev S16384x4 : Shape := ⟨2, ![16384, 4]⟩
abbrev S10 : Shape := ⟨1, ![10]⟩
abbrev S1 : Shape := ⟨1, ![1]⟩
abbrev S10x128 : Shape := ⟨2, ![10, 128]⟩
abbrev S128 : Shape := ⟨1, ![128]⟩
abbrev S100 : Shape := ⟨1, ![100]⟩
abbrev S100x128 : Shape := ⟨2, ![100, 128]⟩
abbrev S7x128 : Shape := ⟨2, ![7, 128]⟩
abbrev S11x128 : Shape := ⟨2, ![11, 128]⟩
abbrev S16384x1 : Shape := ⟨2, ![16384, 1]⟩
abbrev S16384 : Shape := ⟨1, ![16384]⟩
abbrev S_ : Shape := ⟨0, ![]⟩

class Facts : Prop where
  slices_S16384x4_S16384x1_0_0 : S16384x4.Slices ![0, 0] S16384x1
  shapeCasts_S16384x1_S16384 : S16384x1.ShapeCasts S16384
  slices_S16384x4_S16384x1_0_2 : S16384x4.Slices ![0, 2] S16384x1
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384x4 .f32) (main_arg1 : FVec F S10 .f32) (main_arg2 : FVec F S1 .f32) (main_arg3 : FVec F S10x128 .f32) (main_arg4 : FVec F S128 .f32) (main_arg5 : FVec F S100 .f32) (main_arg6 : FVec F S1 .f32) (main_arg7 : FVec F S100x128 .f32) (main_arg8 : FVec F S128 .f32) (main_arg9 : FVec F S7x128 .f32) (main_arg10 : FVec F S11x128 .f32) : IVec S_ 1 :=
  let main_v0 : FVec F S16384x1 .f32 := (extractStridedSlice S16384x1 ![0, 0] · slices_S16384x4_S16384x1_0_0) main_arg0
  let main_v1 : FVec F S16384 .f32 := shapeCast S16384 main_v0 shapeCasts_S16384x1_S16384
  let main_v2 : FVec F S16384x1 .f32 := (extractStridedSlice S16384x1 ![0, 2] · slices_S16384x4_S16384x1_0_2) main_arg0
  let main_v3 : FVec F S16384 .f32 := shapeCast S16384 main_v2 shapeCasts_S16384x1_S16384
  let main_cst : FVec F S_ .f32 := constant S_ .f32 0x00000000#32
  let main_v4 : FVec F S16384 .f32 := broadcastInDim S16384 ![] bcast_S_S16384 main_cst
  let main_v5 : IVec S16384 1 := cmpf .oge main_v1 main_v4
  let main_cst_0 : FVec F S_ .f32 := constant S_ .f32 0x40E00000#32
  let main_v6 : FVec F S16384 .f32 := broadcastInDim S16384 ![] bcast_S_S16384 main_cst_0
  let main_v7 : IVec S16384 1 := cmpf .olt main_v1 main_v6
  let main_v8 : IVec S16384 1 := andi main_v5 main_v7
  let main_cst_1 : FVec F S_ .f32 := constant S_ .f32 0x00000000#32
  let main_v9 : FVec F S16384 .f32 := broadcastInDim S16384 ![] bcast_S_S16384 main_cst_1
  let main_v10 : IVec S16384 1 := cmpf .oge main_v3 main_v9
  let main_v11 : IVec S16384 1 := andi main_v8 main_v10
  let main_cst_2 : FVec F S_ .f32 := constant S_ .f32 0x41300000#32
  let main_v12 : FVec F S16384 .f32 := broadcastInDim S16384 ![] bcast_S_S16384 main_cst_2
  let main_v13 : IVec S16384 1 := cmpf .olt main_v3 main_v12
  let main_v14 : IVec S16384 1 := andi main_v11 main_v13
  let main_c : IVec S_ 1 := constantI S_ 1 1#1
  let main_v15 : IVec S_ 1 := (fun x v => Host.reduce IntOp.andi x v reducesTo_S16384_S_d0 h_S_) main_v14 main_c
  main_v15
-- ==== Kernel.lean ====
abbrev S16384x4 : Shape := ⟨2, ![16384, 4]⟩
abbrev S10 : Shape := ⟨1, ![10]⟩
abbrev S1 : Shape := ⟨1, ![1]⟩
abbrev S10x128 : Shape := ⟨2, ![10, 128]⟩
abbrev S128 : Shape := ⟨1, ![128]⟩
abbrev S100 : Shape := ⟨1, ![100]⟩
abbrev S100x128 : Shape := ⟨2, ![100, 128]⟩
abbrev S7x128 : Shape := ⟨2, ![7, 128]⟩
abbrev S11x128 : Shape := ⟨2, ![11, 128]⟩
abbrev S1x10 : Shape := ⟨2, ![1, 10]⟩
abbrev S1x100 : Shape := ⟨2, ![1, 100]⟩
abbrev S1x1 : Shape := ⟨2, ![1, 1]⟩
abbrev S1x128 : Shape := ⟨2, ![1, 128]⟩
abbrev S16384x128 : Shape := ⟨2, ![16384, 128]⟩
abbrev S4096x4 : Shape := ⟨2, ![4096, 4]⟩
abbrev S4096x128 : Shape := ⟨2, ![4096, 128]⟩
abbrev S128x128 : Shape := ⟨2, ![128, 128]⟩
abbrev S3x128 : Shape := ⟨2, ![3, 128]⟩
abbrev S1x18 : Shape := ⟨2, ![1, 18]⟩
abbrev S4096x124 : Shape := ⟨2, ![4096, 124]⟩
abbrev S4096x128x1 : Shape := ⟨3, ![4096, 128, 1]⟩

abbrev nBuf : Space → Nat
  | .hbm => 18
  | .vmem => 16
  | .smem => 0
  | _ => 0

abbrev bufTy : (tb : Table) → Fin (tcTables nBuf tb) → BufTy
  | .hbm, ⟨0, _⟩ => ⟨S16384x4, .f32⟩
  | .hbm, ⟨1, _⟩ => ⟨S10, .f32⟩
  | .hbm, ⟨2, _⟩ => ⟨S1, .f32⟩
  | .hbm, ⟨3, _⟩ => ⟨S10x128, .f32⟩
  | .hbm, ⟨4, _⟩ => ⟨S128, .f32⟩
  | .hbm, ⟨5, _⟩ => ⟨S100, .f32⟩
  | .hbm, ⟨6, _⟩ => ⟨S1, .f32⟩
  | .hbm, ⟨7, _⟩ => ⟨S100x128, .f32⟩
  | .hbm, ⟨8, _⟩ => ⟨S128, .f32⟩
  | .hbm, ⟨9, _⟩ => ⟨S7x128, .f32⟩
  | .hbm, ⟨10, _⟩ => ⟨S11x128, .f32⟩
  | .hbm, ⟨11, _⟩ => ⟨S1x10, .f32⟩
  | .hbm, ⟨12, _⟩ => ⟨S1x100, .f32⟩
  | .hbm, ⟨13, _⟩ => ⟨S1x1, .f32⟩
  | .hbm, ⟨14, _⟩ => ⟨S1x1, .f32⟩
  | .hbm, ⟨15, _⟩ => ⟨S1x128, .f32⟩
  | .hbm, ⟨16, _⟩ => ⟨S1x128, .f32⟩
  | .hbm, ⟨17, _⟩ => ⟨S16384x128, .f32⟩
  | .local _ .vmem, ⟨0, _⟩ => ⟨S4096x4, .f32⟩
  | .local _ .vmem, ⟨1, _⟩ => ⟨S4096x4, .f32⟩
  | .local _ .vmem, ⟨2, _⟩ => ⟨S10x128, .f32⟩
  | .local _ .vmem, ⟨3, _⟩ => ⟨S100x128, .f32⟩
  | .local _ .vmem, ⟨4, _⟩ => ⟨S7x128, .f32⟩
  | .local _ .vmem, ⟨5, _⟩ => ⟨S11x128, .f32⟩
  | .local _ .vmem, ⟨6, _⟩ => ⟨S1x10, .f32⟩
  | .local _ .vmem, ⟨7, _⟩ => ⟨S1x100, .f32⟩
  | .local _ .vmem, ⟨8, _⟩ => ⟨S1x1, .f32⟩
  | .local _ .vmem, ⟨9, _⟩ => ⟨S1x1, .f32⟩
  | .local _ .vmem, ⟨10, _⟩ => ⟨S1x128, .f32⟩
  | .local _ .vmem, ⟨11, _⟩ => ⟨S1x128, .f32⟩
  | .local _ .vmem, ⟨12, _⟩ => ⟨S4096x128, .f32⟩
  | .local _ .vmem, ⟨13, _⟩ => ⟨S4096x128, .f32⟩
  | .local _ .vmem, ⟨14, _⟩ => ⟨S128x128, .f32⟩
  | .local _ .vmem, ⟨15, _⟩ => ⟨S3x128, .f32⟩
  | _, _ => ⟨S16384x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S100x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S7x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S11x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x100 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4096x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "mask" => some ⊥
  | "neg_log2e" => some ((-((Real.log 2)⁻¹) : ℝ) : EReal)
  | _ => none
-- ==== ReferenceIdeal.lean ====
abbrev S16384x4 : Shape := ⟨2, ![16384, 4]⟩
abbrev S10 : Shape := ⟨1, ![10]⟩
abbrev S1 : Shape := ⟨1, ![1]⟩
abbrev S10x128 : Shape := ⟨2, ![10, 128]⟩
abbrev S128 : Shape := ⟨1, ![128]⟩
abbrev S100 : Shape := ⟨1, ![100]⟩
abbrev S100x128 : Shape := ⟨2, ![100, 128]⟩
abbrev S7x128 : Shape := ⟨2, ![7, 128]⟩
abbrev S11x128 : Shape := ⟨2, ![11, 128]⟩
abbrev S16384x1 : Shape := ⟨2, ![16384, 1]⟩
abbrev S16384 : Shape := ⟨1, ![16384]⟩
abbrev S1x10 : Shape := ⟨2, ![1, 10]⟩
abbrev S16384x10 : Shape := ⟨2, ![16384, 10]⟩
abbrev S1x1 : Shape := ⟨2, ![1, 1]⟩
abbrev S16384x128 : Shape := ⟨2, ![16384, 128]⟩
abbrev S1x128 : Shape := ⟨2, ![1, 128]⟩
abbrev S1x100 : Shape := ⟨2, ![1, 100]⟩
abbrev S16384x100 : Shape := ⟨2, ![16384, 100]⟩
abbrev S_ : Shape := ⟨0, ![]⟩

abbrev nBuf : Space → Nat
  | .hbm => 100
  | .vmem => 0
  | .smem => 0
  | _ => 0

abbrev bufTy : (tb : Table) → Fin (tcTables nBuf tb) → BufTy
  | .hbm, ⟨0, _⟩ => ⟨S16384x4, .f32⟩
  | .hbm, ⟨1, _⟩ => ⟨S10, .f32⟩
  | .hbm, ⟨2, _⟩ => ⟨S1, .f32⟩
  | .hbm, ⟨3, _⟩ => ⟨S10x128, .f32⟩
  | .hbm, ⟨4, _⟩ => ⟨S128, .f32⟩
  | .hbm, ⟨5, _⟩ => ⟨S100, .f32⟩
  | .hbm, ⟨6, _⟩ => ⟨S1, .f32⟩
  | .hbm, ⟨7, _⟩ => ⟨S100x128, .f32⟩
  | .hbm, ⟨8, _⟩ => ⟨S128, .f32⟩
  | .hbm, ⟨9, _⟩ => ⟨S7x128, .f32⟩
  | .hbm, ⟨10, _⟩ => ⟨S11x128, .f32⟩
  | .hbm, ⟨11, _⟩ => ⟨S16384x1, .f32⟩
  | .hbm, ⟨12, _⟩ => ⟨S16384, .f32⟩
  | .hbm, ⟨13, _⟩ => ⟨S16384x1, .f32⟩
  | .hbm, ⟨14, _⟩ => ⟨S1, .f32⟩
  | .hbm, ⟨15, _⟩ => ⟨S1x10, .f32⟩
  | .hbm, ⟨16, _⟩ => ⟨S16384x10, .f32⟩
  | .hbm, ⟨17, _⟩ => ⟨S16384x10, .f32⟩
  | .hbm, ⟨18, _⟩ => ⟨S16384x10, .f32⟩
  | .hbm, ⟨19, _⟩ => ⟨S16384x10, .f32⟩
  | .hbm, ⟨20, _⟩ => ⟨S1x1, .f32⟩
  | .hbm, ⟨21, _⟩ => ⟨S16384x10, .f32⟩
  | .hbm, ⟨22, _⟩ => ⟨S16384x10, .f32⟩
  | .hbm, ⟨23, _⟩ => ⟨S16384x10, .f32⟩
  | .hbm, ⟨24, _⟩ => ⟨S16384x128, .f32⟩
  | .hbm, ⟨25, _⟩ => ⟨S1x128, .f32⟩
  | .hbm, ⟨26, _⟩ => ⟨S16384x128, .f32⟩
  | .hbm, ⟨27, _⟩ => ⟨S16384x128, .f32⟩
  | .hbm, ⟨28, _⟩ => ⟨S16384x1, .f32⟩
  | .hbm, ⟨29, _⟩ => ⟨S16384, .f32⟩
  | .hbm, ⟨30, _⟩ => ⟨S16384x1, .f32⟩
  | .hbm, ⟨31, _⟩ => ⟨S1, .f32⟩
  | .hbm, ⟨32, _⟩ => ⟨S1x100, .f32⟩
  | .hbm, ⟨33, _⟩ => ⟨S16384x100, .f32⟩
  | .hbm, ⟨34, _⟩ => ⟨S16384x100, .f32⟩
  | .hbm, ⟨35, _⟩ => ⟨S16384x100, .f32⟩
  | .hbm, ⟨36, _⟩ => ⟨S16384x100, .f32⟩
  | .hbm, ⟨37, _⟩ => ⟨S1x1, .f32⟩
  | .hbm, ⟨38, _⟩ => ⟨S16384x100, .f32⟩
  | .hbm, ⟨39, _⟩ => ⟨S16384x100, .f32⟩
  | .hbm, ⟨40, _⟩ => ⟨S16384x100, .f32⟩
  | .hbm, ⟨41, _⟩ => ⟨S16384x128, .f32⟩
  | .hbm, ⟨42, _⟩ => ⟨S16384x128, .f32⟩
  | .hbm, ⟨43, _⟩ => ⟨S1x128, .f32⟩
  | .hbm, ⟨44, _⟩ => ⟨S16384x128, .f32⟩
  | .hbm, ⟨45, _⟩ => ⟨S16384x128, .f32⟩
  | .hbm, ⟨46, _⟩ => ⟨S16384x1, .f32⟩
  | .hbm, ⟨47, _⟩ => ⟨S16384, .f32⟩
  | .hbm, ⟨48, _⟩ => ⟨S16384, .i32⟩
  | .hbm, ⟨49, _⟩ => ⟨S16384x1, .f32⟩
  | .hbm, ⟨50, _⟩ => ⟨S16384, .f32⟩
  | .hbm, ⟨51, _⟩ => ⟨S16384, .i32⟩
  | .hbm, ⟨52, _⟩ => ⟨S_, .i32⟩
  | .hbm, ⟨53, _⟩ => ⟨S16384, .i32⟩
  | .hbm, ⟨54, _⟩ => ⟨S16384, .i1⟩
  | .hbm, ⟨55, _⟩ => ⟨S_, .i32⟩
  | .hbm, ⟨56, _⟩ => ⟨S16384, .i32⟩
  | .hbm, ⟨57, _⟩ => ⟨S16384, .i32⟩
  | .hbm, ⟨58, _⟩ => ⟨S16384, .i32⟩
  | .hbm, ⟨59, _⟩ => ⟨S16384x1, .i32⟩
  | .hbm, ⟨60, _⟩ => ⟨S1, .i32⟩
  | .hbm, ⟨61, _⟩ => ⟨S_, .i32⟩
  | .hbm, ⟨62, _⟩ => ⟨S16384x1, .i32⟩
  | .hbm, ⟨63, _⟩ => ⟨S16384x1, .i1⟩
  | .hbm, ⟨64, _⟩ => ⟨S1x1, .i32⟩
  | .hbm, ⟨65, _⟩ => ⟨S16384x1, .i32⟩
  | .hbm, ⟨66, _⟩ => ⟨S16384x1, .i1⟩
  | .hbm, ⟨67, _⟩ => ⟨S16384x1, .i1⟩
  | .hbm, ⟨68, _⟩ => ⟨S_, .i1⟩
  | .hbm, ⟨69, _⟩ => ⟨S16384, .i1⟩
  | .hbm, ⟨70, _⟩ => ⟨S16384x128, .f32⟩
  | .hbm, ⟨71, _⟩ => ⟨S16384x128, .i1⟩
  | .hbm, ⟨72, _⟩ => ⟨S_, .f32⟩
  | .hbm, ⟨73, _⟩ => ⟨S16384x128, .f32⟩
  | .hbm, ⟨74, _⟩ => ⟨S16384x128, .f32⟩
  | .hbm, ⟨75, _⟩ => ⟨S16384x128, .f32⟩
  | .hbm, ⟨76, _⟩ => ⟨S_, .i32⟩
  | .hbm, ⟨77, _⟩ => ⟨S16384, .i32⟩
  | .hbm, ⟨78, _⟩ => ⟨S16384, .i1⟩
  | .hbm, ⟨79, _⟩ => ⟨S_, .i32⟩
  | .hbm, ⟨80, _⟩ => ⟨S16384, .i32⟩
  | .hbm, ⟨81, _⟩ => ⟨S16384, .i32⟩
  | .hbm, ⟨82, _⟩ => ⟨S16384, .i32⟩
  | .hbm, ⟨83, _⟩ => ⟨S16384x1, .i32⟩
  | .hbm, ⟨84, _⟩ => ⟨S1, .i32⟩
  | .hbm, ⟨85, _⟩ => ⟨S_, .i32⟩
  | .hbm, ⟨86, _⟩ => ⟨S16384x1, .i32⟩
  | .hbm, ⟨87, _⟩ => ⟨S16384x1, .i1⟩
  | .hbm, ⟨88, _⟩ => ⟨S1x1, .i32⟩
  | .hbm, ⟨89, _⟩ => ⟨S16384x1, .i32⟩
  | .hbm, ⟨90, _⟩ => ⟨S16384x1, .i1⟩
  | .hbm, ⟨91, _⟩ => ⟨S16384x1, .i1⟩
  | .hbm, ⟨92, _⟩ => ⟨S_, .i1⟩
  | .hbm, ⟨93, _⟩ => ⟨S16384, .i1⟩
  | .hbm, ⟨94, _⟩ => ⟨S16384x128, .f32⟩
  | .hbm, ⟨95, _⟩ => ⟨S16384x128, .i1⟩
  | .hbm, ⟨96, _⟩ => ⟨S_, .f32⟩
  | .hbm, ⟨97, _⟩ => ⟨S16384x128, .f32⟩
  | .hbm, ⟨98, _⟩ => ⟨S16384x128, .f32⟩
  | .hbm, ⟨99, _⟩ => ⟨S16384x128, .f32⟩
  | _, _ => ⟨S16384x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_call0_c : Ref sig .tc := ⟨.hbm, 52, rfl⟩
abbrev main_call0_v0 : Ref sig .tc := ⟨.hbm, 53, rfl⟩
abbrev main_call0_v1 : Ref sig .tc := ⟨.hbm, 54, rfl⟩
abbrev main_call0_c_0 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_v5 : Ref sig .tc := ⟨.hbm, 59, rfl⟩
abbrev main_call0_c_1 : Ref sig .tc := ⟨.hbm, 60, rfl⟩
abbrev main_call0_c_2 : Ref sig .tc := ⟨.hbm, 61, rfl⟩
abbrev main_call0_v6 : Ref sig .tc := ⟨.hbm, 62, rfl⟩
abbrev main_call0_v7 : Ref sig .tc := ⟨.hbm, 63, rfl⟩
abbrev main_call0_v8 : Ref sig .tc := ⟨.hbm, 64, rfl⟩
abbrev main_call0_v9 : Ref sig .tc := ⟨.hbm, 65, rfl⟩
abbrev main_call0_v10 : Ref sig .tc := ⟨.hbm, 66, rfl⟩
abbrev main_call0_v11 : Ref sig .tc := ⟨.hbm, 67, rfl⟩
abbrev main_call0_c_3 : Ref sig .tc := ⟨.hbm, 68, rfl⟩
abbrev main_call0_v12 : Ref sig .tc := ⟨.hbm, 69, rfl⟩
abbrev main_call0_v13 : Ref sig .tc := ⟨.hbm, 70, rfl⟩
abbrev main_call0_v14 : Ref sig .tc := ⟨.hbm, 71, rfl⟩
abbrev main_call0_cst : Ref sig .tc := ⟨.hbm, 72, rfl⟩
abbrev main_call0_v15 : Ref sig .tc := ⟨.hbm, 73, rfl⟩
abbrev main_v41 : Ref sig .tc := ⟨.hbm, 74, rfl⟩
abbrev main_v42 : Ref sig .tc := ⟨.hbm, 75, rfl⟩
abbrev main_call1_c : Ref sig .tc := ⟨.hbm, 76, rfl⟩
abbrev main_call1_v0 : Ref sig .tc := ⟨.hbm, 77, rfl⟩
abbrev main_call1_v1 : Ref sig .tc := ⟨.hbm, 78, rfl⟩
abbrev main_call1_c_0 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_call1_v5 : Ref sig .tc := ⟨.hbm, 83, rfl⟩
abbrev main_call1_c_1 : Ref sig .tc := ⟨.hbm, 84, rfl⟩
abbrev main_call1_c_2 : Ref sig .tc := ⟨.hbm, 85, rfl⟩
abbrev main_call1_v6 : Ref sig .tc := ⟨.hbm, 86, rfl⟩
abbrev main_call1_v7 : Ref sig .tc := ⟨.hbm, 87, rfl⟩
abbrev main_call1_v8 : Ref sig .tc := ⟨.hbm, 88, rfl⟩
abbrev main_call1_v9 : Ref sig .tc := ⟨.hbm, 89, rfl⟩
abbrev main_call1_v10 : Ref sig .tc := ⟨.hbm, 90, rfl⟩
abbrev main_call1_v11 : Ref sig .tc := ⟨.hbm, 91, rfl⟩
abbrev main_call1_c_3 : Ref sig .tc := ⟨.hbm, 92, rfl⟩
abbrev main_call1_v12 : Ref sig .tc := ⟨.hbm, 93, rfl⟩
abbrev main_call1_v13 : Ref sig .tc := ⟨.hbm, 94, rfl⟩
abbrev main_call1_v14 : Ref sig .tc := ⟨.hbm, 95, rfl⟩
abbrev main_call1_cst : Ref sig .tc := ⟨.hbm, 96, rfl⟩
abbrev main_call1_v15 : Ref sig .tc := ⟨.hbm, 97, rfl⟩
abbrev main_v43 : Ref sig .tc := ⟨.hbm, 98, rfl⟩
abbrev main_v44 : Ref sig .tc := ⟨.hbm, 99, rfl⟩

abbrev nD : Nat := 1
abbrev τ : Topo := Topo.v7x

variable {F : FTy → Type} [FloatOps F]
-- ==== Proof.Scalars.lean ====
/-
Facts on single extended reals: what the literals and the two named constants denote, the powers of two that stand
for exponentials, the lanes that stand for a table lookup, and the sum over the 128 lanes by its four groups.
-/
module

public import proofs.«01_k».proof.Defs
public import Idealize.ShloMosaic.Lib.Pointwise
public import Idealize.ShloMosaic.Lib.Tactic

@[expose] public section

noncomputable section

namespace Cert.KernelIdeal.Hand

open Idealize.ShloMosaic

/-! ## Constants -/

/-- The literal 0. -/
theorem lit_0 : (Ideal.ofBits .f32 0x00000000#32 : EReal) = 0 := by simp [Ideal.ofBits, Ideal.ieee]
/-- The literal 1. -/
theorem lit_1 : (Ideal.ofBits .f32 0x3F800000#32 : EReal) = 1 := by
  rw [show (1 : EReal) = ((1 : ℝ) : EReal) from rfl]
  simp [Ideal.ofBits, Ideal.ieee, -EReal.coe_mul, -EReal.coe_one]; norm_num
/-- The literal 7. -/
theorem lit_7 : (Ideal.ofBits .f32 0x40E00000#32 : EReal) = ((7 : ℝ) : EReal) := by
  simp [Ideal.ofBits, Ideal.ieee, -EReal.coe_mul]; norm_num
/-- The literal 11. -/
theorem lit_11 : (Ideal.ofBits .f32 0x41300000#32 : EReal) = ((11 : ℝ) : EReal) := by
  simp [Ideal.ofBits, Ideal.ieee, -EReal.coe_mul]; norm_num
/-- The literal 110. -/
theorem lit_110 : (Ideal.ofBits .f32 0x42DC0000#32 : EReal) = ((110 : ℝ) : EReal) := by
  simp [Ideal.ofBits, Ideal.ieee, -EReal.coe_mul]; norm_num
/-- The literal 117. -/
theorem lit_117 : (Ideal.ofBits .f32 0x42EA0000#32 : EReal) = ((117 : ℝ) : EReal) := by
  simp [Ideal.ofBits, Ideal.ieee, -EReal.coe_mul]; norm_num

/-- The kernel's named factor is minus the reciprocal of the natural logarithm of two. -/
theorem named_neg_log2e :
    Named.named (F := Ideal) Cert.KernelIdeal.κ "neg_log2e" (φ := .f32) 0xBFB8AA3B#32 = ((-((Real.log 2)⁻¹) : ℝ) : EReal) :=
  IdealRules.named_const.ideal_named_scalar _ _ _ _ rfl
/-- The kernel's named mask is minus infinity. -/
theorem named_mask : Named.named (F := Ideal) Cert.KernelIdeal.κ "mask" (φ := .f32) 0xC69C4000#32 = (⊥ : EReal) :=
  IdealRules.named_const.ideal_named_scalar _ _ _ _ rfl

/-! ## The features -/

/-- Two to minus `y` over the natural logarithm of two is the exponential of minus `y`, the infinities included. -/
theorem exp2_eq_exp (y : EReal) : Ideal.exp2 (((-((Real.log 2)⁻¹) : ℝ) : EReal) * y) = Ideal.exp (-y) := by
  have hlog : 0 < Real.log 2 := Real.log_pos (by norm_num)
  have hneg : (-((Real.log 2)⁻¹) : ℝ) < 0 := by simpa using hlog
  induction y with
  | bot => rw [EReal.coe_mul_bot_of_neg hneg]; rfl
  | top => rw [EReal.coe_mul_top_of_neg hneg]; rfl
  | coe r =>
    rw [← EReal.coe_mul, ← EReal.coe_neg]
    simp only [Ideal.exp2_coe, Ideal.exp_coe]
    congr 1
    show ((2 : ℝ) ^ (-(Real.log 2)⁻¹ * r) : ℝ) = _
    rw [Real.rpow_def_of_pos (by norm_num)]
    congr 1
    field_simp

/-- A radial lane: its mask is zero, so nothing is taken off the distance, and two to the scaled square is the
    exponential of minus the width times the square. -/
theorem radial_feature (x c g : EReal) :
    Ideal.exp2 (((((-((Real.log 2)⁻¹) : ℝ) : EReal) * g) * ((x - c) - 0 * ((x - c) - Ideal.liftRound Int.floor (x - c))))
      * ((x - c) - 0 * ((x - c) - Ideal.liftRound Int.floor (x - c)))) = Ideal.exp (-g * ((x - c) * (x - c))) := by
  rw [zero_mul, sub_zero, mul_assoc, mul_assoc, exp2_eq_exp, EReal.neg_mul]

/-- A one-hot lane at a real `x`: the fractional part is taken off the distance to the natural number `n`, and two to
    minus infinity times the square of what is left is one where the floor of `x` is `n` and zero elsewhere. -/
theorem onehot_feature (x : ℝ) (n : ℕ) :
    Ideal.exp2 ((⊥ * (((x : EReal) - ((n : ℝ) : EReal)) - 1 * (((x : EReal) - ((n : ℝ) : EReal)) - Ideal.liftRound Int.floor ((x : EReal) - ((n : ℝ) : EReal)))))
      * (((x : EReal) - ((n : ℝ) : EReal)) - 1 * (((x : EReal) - ((n : ℝ) : EReal)) - Ideal.liftRound Int.floor ((x : EReal) - ((n : ℝ) : EReal)))))
      = if ⌊x⌋ = (n : ℤ) then 1 else 0 := by
  have hu : ((x : EReal) - ((n : ℝ) : EReal)) - 1 * (((x : EReal) - ((n : ℝ) : EReal)) - Ideal.liftRound Int.floor ((x : EReal) - ((n : ℝ) : EReal)))
      = (((⌊x⌋ - n : ℤ) : ℝ) : EReal) := by
    rw [← EReal.coe_sub, one_mul]
    show ((x - n : ℝ) : EReal) - (((x - n : ℝ) : EReal) - ((⌊x - n⌋ : ℝ) : EReal)) = _
    rw [← EReal.coe_sub, ← EReal.coe_sub, Int.floor_sub_natCast]
    congr 1
    ring
  rw [hu]
  by_cases h : ⌊x⌋ = (n : ℤ)
  · rw [if_pos h, h, sub_self]
    simp only [Int.cast_zero, EReal.coe_zero, mul_zero]
    rw [← EReal.coe_zero, Ideal.exp2_coe]
    simp
  · rw [if_neg h]
    have hne : ⌊x⌋ - (n : ℤ) ≠ 0 := sub_ne_zero.mpr h
    rcases lt_or_gt_of_ne hne with hlt | hgt
    · have hr : (((⌊x⌋ - n : ℤ) : ℝ)) < 0 := by exact_mod_cast hlt
      rw [EReal.bot_mul_coe_of_neg hr, EReal.top_mul_coe_of_neg hr]; rfl
    · have hr : 0 < (((⌊x⌋ - n : ℤ) : ℝ)) := by exact_mod_cast hgt
      rw [EReal.bot_mul_coe_of_pos hr, EReal.bot_mul_coe_of_pos hr]; rfl

/-! ## Sums -/

/-- A sum over the 128 lanes is the sum of its four groups: 10 and 100 radial lanes, 7 and 11 one-hot lanes. -/
theorem sum_lanes (f : Fin 128 → EReal) :
    ∑ l, f l = ((∑ k : Fin 10, f ⟨k.val, by omega⟩ + ∑ k : Fin 100, f ⟨10 + k.val, by omega⟩)
      + ∑ k : Fin 7, f ⟨110 + k.val, by omega⟩) + ∑ k : Fin 11, f ⟨117 + k.val, by omega⟩ := by
  rw [show ∑ l, f l = ∑ l : Fin (117 + 11), f l from rfl, Fin.sum_univ_add]
  congr 1
  rw [show ∑ l : Fin 117, f (Fin.castAdd 11 l) = ∑ l : Fin (110 + 7), f (Fin.castAdd 11 l) from rfl, Fin.sum_univ_add]
  congr 1
  rw [show ∑ l : Fin 110, f (Fin.castAdd 11 (Fin.castAdd 7 l)) = ∑ l : Fin (10 + 100), f (Fin.castAdd 11 (Fin.castAdd 7 l)) from rfl,
    Fin.sum_univ_add]
  rfl

/-- A sum of rows, each weighted by whether its number is `q`, is row `q`. -/
theorem sum_onehot {n : ℕ} (q : Fin n) (f : Fin n → EReal) :
    ∑ k : Fin n, (if ((q.val : ℕ) : ℤ) = (k.val : ℤ) then (1 : EReal) else 0) * f k = f q := by
  rw [Finset.sum_eq_single q]
  · rw [if_pos rfl, one_mul]
  · intro k _ hk
    rw [if_neg (fun e => hk (Fin.ext (by exact_mod_cast e.symm))), zero_mul]
  · exact fun h => absurd (Finset.mem_univ q) h

end Cert.KernelIdeal.Hand

end
-- ==== Proof.Block.lean ====
/-
What one run of the kernel body leaves: its output block, and the two scratch arrays that the first grid point
fills and the later points only read.
-/
module

public import proofs.«01_k».proof.Defs
public import proofs.«01_k».proof.Proof.Gen.KernelIdeal.Value
public import proofs.«01_k».proof.Proof.Scalars
public import Idealize.ShloMosaic.Lib.Pipeline.Value
public import Idealize.ShloMosaic.Lib.Pointwise
public import Idealize.ShloMosaic.Lib.Tactic

@[expose] public section

set_option maxRecDepth 16384

noncomputable section

namespace Cert.KernelIdeal.Hand

open Idealize.ShloMosaic Idealize.ShloMosaic.TcCoe Idealize.SL.Sem Idealize.ShloMosaic.WordCmp
open Cert.KernelIdeal Cert.KernelIdeal.Gen

theorem zero_offset : (![0, 0] : Fin 2 → Nat) = fun _ => 0 := funext fun a => by fin_cases a <;> rfl

/-! ## The scratch arrays -/

/-- The stacked weights: rows 0–9 the eluent weights, rows 10–109 the grain weights, rows 110–116 the silica
    embedding with both biases added to each row, rows 117–127 the replacement embedding. -/
def weights (x1 : Vec Ideal S10x128 .f32) (x2 : Vec Ideal S100x128 .f32) (x3 : Vec Ideal S7x128 .f32)
    (x4 : Vec Ideal S11x128 .f32) (x9 x10 : Vec Ideal S1x128 .f32) : Vec Ideal S128x128 .f32 := fun i =>
  if h : (i 0).val < 10 then x1 (ix2 ⟨(i 0).val, h⟩ (i 1))
  else if h : (i 0).val < 110 then x2 (ix2 ⟨(i 0).val - 10, by omega⟩ (i 1))
  else if h : (i 0).val < 117 then
    (x3 (ix2 ⟨(i 0).val - 110, by omega⟩ (i 1)) : EReal) + ((x9 (ix2 0 (i 1)) : EReal) + (x10 (ix2 0 (i 1)) : EReal))
  else x4 (ix2 ⟨(i 0).val - 117, by have := (i 0).isLt; change (i 0).val < 128 at this; omega⟩ (i 1))

/-- The centre that lane `l` subtracts: an eluent centre, a grain centre, or the number of the lane within its
    one-hot group. -/
def centre (x5 : Vec Ideal S1x10 .f32) (x6 : Vec Ideal S1x100 .f32) (l : Fin 128) : EReal :=
  if h : l.val < 10 then x5 (ix2 0 ⟨l.val, h⟩)
  else if h : l.val < 110 then x6 (ix2 0 ⟨l.val - 10, by omega⟩)
  else if l.val < 117 then ((l.val - 110 : ℝ) : EReal)
  else ((l.val - 117 : ℝ) : EReal)

/-- The factor of lane `l`'s square: minus the width over the natural logarithm of two on the lanes of the two
    radial bases, minus infinity on the one-hot lanes. -/
def factor (x7 x8 : Vec Ideal S1x1 .f32) (l : Fin 128) : EReal :=
  if l.val < 10 then ((-((Real.log 2)⁻¹) : ℝ) : EReal) * (x7 (ix2 0 0) : EReal)
  else if l.val < 110 then ((-((Real.log 2)⁻¹) : ℝ) : EReal) * (x8 (ix2 0 0) : EReal)
  else ⊥

/-- Zero on the lanes of the radial bases, one on the one-hot lanes, where the fractional part is taken off. -/
def onehot (l : Fin 128) : EReal := if l.val < 110 then 0 else 1

/-- The table of lane constants: row 0 the centres, row 1 the factors, row 2 the one-hot mask. -/
def table (x5 : Vec Ideal S1x10 .f32) (x6 : Vec Ideal S1x100 .f32) (x7 x8 : Vec Ideal S1x1 .f32) : Vec Ideal S3x128 .f32 := fun i =>
  if (i 0).val = 0 then centre x5 x6 (i 1) else if (i 0).val = 1 then factor x7 x8 (i 1) else onehot (i 1)

/-- The block a grid point writes, of its rows of the condition array, the stacked weights and the lane table. -/
def blockOut (x0 : Vec Ideal S4096x4 .f32) (W : Vec Ideal S128x128 .f32) (T : Vec Ideal S3x128 .f32) : Vec Ideal S4096x128 .f32 :=
  k0_pay1 (k0_pay16 x0 (View.ld T (Rect.unit ![0, 0] ![1, 128] inb_S3x128_S1x128_0_0)) (View.ld T (Rect.unit ![2, 0] ![1, 128] inb_S3x128_S1x128_2_0)))
    (View.ld T (Rect.unit ![1, 0] ![1, 128] inb_S3x128_S1x128_1_0)) (View.ld W (Rect.unit ![0, 0] ![128, 128] inb_S128x128_S128x128_0_0))

/-! ## Reading words as numbers -/

theorem slt10 : ∀ l : Fin 128, IntOp.cmpi .slt (BitVec.ofNat 32 l.val) 10#32 = BitVec.ofBool (decide (l.val < 10)) := by decide +kernel
theorem slt110 : ∀ l : Fin 128, IntOp.cmpi .slt (BitVec.ofNat 32 l.val) 110#32 = BitVec.ofBool (decide (l.val < 110)) := by decide +kernel
theorem slt117 : ∀ l : Fin 128, IntOp.cmpi .slt (BitVec.ofNat 32 l.val) 117#32 = BitVec.ofBool (decide (l.val < 117)) := by decide +kernel
theorem sge10 : ∀ l : Fin 128, IntOp.cmpi .sge (BitVec.ofNat 32 l.val) 10#32 = BitVec.ofBool (decide (10 ≤ l.val)) := by decide +kernel
theorem sge110 : ∀ l : Fin 128, IntOp.cmpi .sge (BitVec.ofNat 32 l.val) 110#32 = BitVec.ofBool (decide (110 ≤ l.val)) := by decide +kernel
theorem lane_toInt : ∀ l : Fin 128, (BitVec.ofNat 32 l.val).toInt = (l.val : ℤ) := by decide +kernel

/-- A rectangle of whole rows from row `o` on: its row `a` is row `o + a`, the columns stay. -/
theorem emb_rows {m n k o : Nat} (inb : ∀ a, (![o, 0] : Fin 2 → Nat) a + (![k, n] : Fin 2 → Nat) a ≤ (⟨2, ![m, n]⟩ : Shape).size a) (a : Fin k) (b : Fin n) (ha : o + a.val < m) :
    (Rect.unit (s := ⟨2, ![m, n]⟩) ![o, 0] ![k, n] inb).emb (ix2 a b) = ix2 ⟨o + a.val, ha⟩ b := by
  funext d
  apply Fin.ext
  match d with
  | ⟨0, _⟩ => show o + 1 * a.val = o + a.val; omega
  | ⟨1, _⟩ => show 0 + 1 * b.val = b.val; omega

/-- The condition column that lane `l` reads: 1 for the eluent, 3 for the grain, 0 for the silica, 2 for the
    replacement group. -/
def source (l : Fin 128) : Fin 4 := if l.val < 10 then 1 else if l.val < 110 then 3 else if l.val < 117 then 0 else 2

/-- The word the kernel gathers by, reduced modulo the 128 lanes, is that column. -/
theorem source_word : ∀ l : Fin 128,
    (Scalar.select (IntOp.cmpi .slt (Scalar.select (IntOp.cmpi .slt (BitVec.ofNat 32 l.val) 10#32) (1#32)
        (Scalar.select (IntOp.cmpi .slt (BitVec.ofNat 32 l.val) 110#32) (3#32)
          (Scalar.select (IntOp.cmpi .slt (BitVec.ofNat 32 l.val) 117#32) 0#32 2#32))) 0#32)
      (IntOp.addi (Scalar.select (IntOp.cmpi .slt (BitVec.ofNat 32 l.val) 10#32) (1#32)
        (Scalar.select (IntOp.cmpi .slt (BitVec.ofNat 32 l.val) 110#32) (3#32)
          (Scalar.select (IntOp.cmpi .slt (BitVec.ofNat 32 l.val) 117#32) 0#32 2#32))) 128#32)
      (Scalar.select (IntOp.cmpi .slt (BitVec.ofNat 32 l.val) 10#32) (1#32)
        (Scalar.select (IntOp.cmpi .slt (BitVec.ofNat 32 l.val) 110#32) (3#32)
          (Scalar.select (IntOp.cmpi .slt (BitVec.ofNat 32 l.val) 117#32) 0#32 2#32)))).toNat % 128 = (source l).val := by
  decide +kernel

/-- What lane `l` is left with before squaring: the distance of its condition entry `x` to its centre, less the
    fractional part where the lane's mask is one. -/
def residue (x ctr msk : EReal) : EReal := (x - ctr) - msk * ((x - ctr) - Ideal.liftRound Int.floor (x - ctr))

/-- One entry of a block: the sum over the lanes of two to the scaled square, times the lane's row of weights. -/
theorem blockOut_apply (x0 : Vec Ideal S4096x4 .f32) (W : Vec Ideal S128x128 .f32) (T : Vec Ideal S3x128 .f32) (r : Fin 4096) (j : Fin 128) :
    (blockOut x0 W T (ix2 r j) : EReal) = ∑ l : Fin 128, Ideal.exp2
      (((T (ix2 1 l) : EReal) * residue (x0 (ix2 r (source l))) (T (ix2 0 l)) (T (ix2 2 l)))
        * residue (x0 (ix2 r (source l))) (T (ix2 0 l)) (T (ix2 2 l))) * (W (ix2 l j) : EReal) := by
  pointwise [blockOut, k0_pay1, k0_pay16]
  simp only [source_word, Fin.isLt, dite_true, Fin.eta]
  rfl

/-! ## The body's runs -/

section
variable (c : Dev nD) (i : grid0.Coords)
  (arg1 : Memref sig .tc .vmem S4096x4 .f32) (harg1 : arg1.IsWhole)
  (arg2 : Memref sig .tc .vmem S10x128 .f32) (harg2 : arg2.IsWhole)
  (arg3 : Memref sig .tc .vmem S100x128 .f32) (harg3 : arg3.IsWhole)
  (arg4 : Memref sig .tc .vmem S7x128 .f32) (harg4 : arg4.IsWhole)
  (arg5 : Memref sig .tc .vmem S11x128 .f32) (harg5 : arg5.IsWhole)
  (arg6 : Memref sig .tc .vmem S1x10 .f32) (harg6 : arg6.IsWhole)
  (arg7 : Memref sig .tc .vmem S1x100 .f32) (harg7 : arg7.IsWhole)
  (arg8 : Memref sig .tc .vmem S1x1 .f32) (harg8 : arg8.IsWhole)
  (arg9 : Memref sig .tc .vmem S1x1 .f32) (harg9 : arg9.IsWhole)
  (arg10 : Memref sig .tc .vmem S1x128 .f32) (harg10 : arg10.IsWhole)
  (arg11 : Memref sig .tc .vmem S1x128 .f32) (harg11 : arg11.IsWhole)
  (arg12 : Memref sig .tc .vmem S4096x128 .f32) (harg12 : arg12.IsWhole)
  (arg13 : Memref sig .tc .vmem S128x128 .f32) (harg13 : arg13.IsWhole)
  (arg14 : Memref sig .tc .vmem S3x128 .f32) (harg14 : arg14.IsWhole)
  (x0 : Vec Ideal S4096x4 .f32)
  (x1 : Vec Ideal S10x128 .f32)
  (x2 : Vec Ideal S100x128 .f32)
  (x3 : Vec Ideal S7x128 .f32)
  (x4 : Vec Ideal S11x128 .f32)
  (x5 : Vec Ideal S1x10 .f32)
  (x6 : Vec Ideal S1x100 .f32)
  (x7 : Vec Ideal S1x1 .f32)
  (x8 : Vec Ideal S1x1 .f32)
  (x9 : Vec Ideal S1x128 .f32)
  (x10 : Vec Ideal S1x128 .f32)

/-- A later grid point writes the block of its condition rows and of the two scratch arrays as it finds them. -/
theorem out_B (hn0 : ¬cond0_0 i) (xs0 : Vec Ideal S128x128 .f32) (xs1 : Vec Ideal S3x128 .f32) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 hn0 x0 x1 x2 x3 x4 x5 x6 x7 x8 x9 x10 xs0 xs1 = blockOut x0 xs0 xs1 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 hn0 x0 x1 x2 x3 x4 x5 x6 x7 x8 x9 x10 xs0 xs1)]
  unfold kernelRun0_B
  dsimp only
  sl_unfold_words
  simp only [View.readAt_eq_ld, harg1.read_unread, harg13.read_unread, harg14.read_unread]
  rw [View.canon_unit_zero zero_offset]
  simp only [View.ld_unit_zero (S := S4096x4) zero_offset]
  rfl

/-- The first grid point fills the first scratch array with the stacked weights. -/
theorem sout_A_0 (hc0 : cond0_0 i) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 = weights x1 x2 x3 x4 x9 x10 := by
  unfold sout0_A_0
  rw [View.read_writes_junk_eq_canon]
  funext y
  refine View.canon_apply_of_pieces (weights x1 x2 x3 x4 x9 x10) _ ?_ y (scover0_A_0 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 y)
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S10x128) zero_offset, View.ld_unit_zero (S := S100x128) zero_offset,
    View.ld_unit_zero (S := S7x128) zero_offset, View.ld_unit_zero (S := S11x128) zero_offset, View.ld_unit_zero (S := S1x128) zero_offset]
  simp only [List.forall_mem_cons, List.not_mem_nil, false_imp_iff, implies_true, and_true]
  refine ⟨fun y => ?_, fun y => ?_, fun y => ?_, fun y => ?_⟩
  · idx_vars y
    have hr := y0.isLt
    refine Eq.trans ?_ (congrArg _ (emb_rows (m := 128) (n := 128) (k := 11) (o := 117) _ y0 y1 (by omega))).symm
    pointwise [weights]
    rw [dif_neg (by omega), dif_neg (by omega)]
  · idx_vars y
    have hr := y0.isLt
    refine Eq.trans ?_ (congrArg _ (emb_rows (m := 128) (n := 128) (k := 7) (o := 110) _ y0 y1 (by omega))).symm
    pointwise [weights]
    rw [dif_neg (by omega), dif_pos (by omega)]
  · idx_vars y
    have hr := y0.isLt
    refine Eq.trans ?_ (congrArg _ (emb_rows (m := 128) (n := 128) (k := 100) (o := 10) _ y0 y1 (by omega))).symm
    pointwise [weights]
    rw [dif_pos (by omega)]
  · idx_vars y
    have hr := y0.isLt
    refine Eq.trans ?_ (congrArg _ (emb_rows (m := 128) (n := 128) (k := 10) (o := 0) _ y0 y1 (by omega))).symm
    pointwise [weights]

/-- The first grid point fills the second scratch array with the table of lane constants. -/
theorem sout_A_1 (hc0 : cond0_0 i) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 = table x5 x6 x7 x8 := by
  unfold sout0_A_1
  rw [View.read_writes_junk_eq_canon]
  funext y
  refine View.canon_apply_of_pieces (table x5 x6 x7 x8) _ ?_ y (scover0_A_1 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 y)
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1x10) zero_offset, View.ld_unit_zero (S := S1x100) zero_offset,
    View.ld_unit_zero (S := S1x1) zero_offset]
  simp only [List.forall_mem_cons, List.not_mem_nil, false_imp_iff, implies_true, and_true]
  refine ⟨fun y => ?_, fun y => ?_, fun y => ?_⟩
  · idx_vars y
    refine Eq.trans ?_ (congrArg _ (emb_rows (m := 3) (n := 128) (k := 1) (o := 2) _ y0 y1 (by omega))).symm
    pointwise [k0_pay15, k0_pay14, k0_pay13, k0_pay12, k0_pay11, k0_pay10, table, onehot]
    rw [slt10, slt110, sge10, andi_ofBool, ori_ofBool, select_ofBool]
    by_cases h : y1.val < 110
    · rw [if_pos h, if_pos (by simp; omega)]
    · rw [if_neg h, if_neg (by simp; omega)]
  · idx_vars y
    refine Eq.trans ?_ (congrArg _ (emb_rows (m := 3) (n := 128) (k := 1) (o := 1) _ y0 y1 (by omega))).symm
    pointwise [k0_pay15, k0_pay14, k0_pay13, k0_pay12, k0_pay11, k0_pay10, table, factor]
    rw [slt10, slt110, sge10, andi_ofBool, select_ofBool, select_ofBool, named_neg_log2e, named_mask]
    by_cases h : y1.val < 10
    · rw [if_pos h, if_pos (by simpa using h)]
    · by_cases h' : y1.val < 110
      · rw [if_neg h, if_pos h', if_neg (by simpa using h), if_pos (by simp; omega)]
      · rw [if_neg h, if_neg h', if_neg (by simpa using h), if_neg (by simp; omega)]
  · idx_vars y
    refine Eq.trans ?_ (congrArg _ (emb_rows (m := 3) (n := 128) (k := 1) (o := 0) _ y0 y1 (by omega))).symm
    pointwise [k0_pay15, k0_pay14, k0_pay13, k0_pay12, k0_pay11, k0_pay10, table, centre]
    have hs : (FloatOps.sitofp FTy.f32 (BitVec.ofNat 32 y1.val) : Ideal .f32) = ((y1.val : ℝ) : EReal) := by
      show (((BitVec.ofNat 32 y1.val).toInt : ℝ) : EReal) = _
      rw [lane_toInt, Int.cast_natCast]
    rw [slt10, slt110, sge10, sge110, slt117, andi_ofBool, andi_ofBool, ori_ofBool, select_ofBool, select_ofBool, hs, lit_110, lit_117]
    by_cases h : y1.val < 10
    · rw [if_pos (by simp; omega), dif_pos h, dif_pos h]
    · by_cases h' : y1.val < 110
      · rw [if_pos (by simp; omega), dif_neg h, dif_neg h, dif_pos (by omega), dif_pos h']
      · by_cases h'' : y1.val < 117
        · rw [if_neg (by simp; omega), if_pos (by simp; omega), dif_neg h, dif_neg h', if_pos h'', EReal.coe_sub]
        · rw [if_neg (by simp; omega), if_neg (by simp; omega), dif_neg h, dif_neg h', if_neg h'', EReal.coe_sub]

/-- The first grid point writes the block of its condition rows and of what it just put into the scratch arrays. -/
theorem out_A (hc0 : cond0_0 i) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 = blockOut x0 (sout0_A_0 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10) (sout0_A_1 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10) := by
  unfold out0_A_11 sout0_A_0 sout0_A_1
  simp only [View.read_writes_junk_eq_canon]
  unfold kernelRun0_A
  dsimp only
  sl_unfold_words
  simp only [View.readAt_eq_ld, View.readCov_eq_canon', harg1.read_unread, harg2.read_unread, harg3.read_unread, harg4.read_unread, harg5.read_unread, harg6.read_unread, harg7.read_unread, harg8.read_unread, harg9.read_unread, harg10.read_unread, harg11.read_unread]
  rw [View.canon_unit_zero zero_offset]
  simp only [View.ld_unit_zero (S := S4096x4) zero_offset]
  rfl
end

end Cert.KernelIdeal.Hand

end
-- ==== Proof.Array.lean ====
/-
What the kernel's result array holds: every entry is the sum over the 128 lanes of its condition row's features times
the lanes' weights, both read off the argument arrays.
-/
module

public import proofs.«01_k».proof.Proof.Block
public import Idealize.ShloMosaic.Lib.Pipeline.ValueKit

@[expose] public section

set_option maxRecDepth 16384

noncomputable section

namespace Cert.KernelIdeal.Hand

open Idealize.ShloMosaic Idealize.ShloMosaic.TcCoe Idealize.SL.Sem
open Cert.KernelIdeal Cert.KernelIdeal.Gen

variable (m : (ℓ : Loc nD τ sig) → Buf (Elt Ideal) ℓ)

/-! ## The blocks a grid point reads -/

/-- Grid point `t` reads the `t`-th 4096 rows of the condition array. -/
theorem index_0 (t : Fin cfg0.N) : win0_0.index t 0 = t.val ∧ win0_0.index t 1 = 0 := by
  rcases fin_N0 t with rfl | rfl | rfl | rfl <;> decide

/-- Every grid point reads the whole of each of the other operands. -/
theorem index_whole (t : Fin cfg0.N) : (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0)
    ∧ (win0_7.index t 0 = 0 ∧ win0_7.index t 1 = 0) ∧ (win0_8.index t 0 = 0 ∧ win0_8.index t 1 = 0)
    ∧ (win0_9.index t 0 = 0 ∧ win0_9.index t 1 = 0) ∧ (win0_10.index t 0 = 0 ∧ win0_10.index t 1 = 0) := by
  rcases fin_N0 t with rfl | rfl | rfl | rfl <;> decide

/-- Row `r` of point `t`'s block is row `4096 t + r` of the condition array. -/
theorem block_0 (c : Dev nD) (t : Fin cfg0.N) (r : Fin 4096) (k : Fin 4) (hr : t.val * 4096 + r.val < 16384) :
    (iblk m c 0 t : Vec Ideal S4096x4 .f32) (ix2 r k) = m ((c : Thread nD τ).loc main_arg0) (ix2 (⟨t.val * 4096 + r.val, hr⟩ : Fin 16384) k) := by
  blk_ext! [iblk, V, index_0 t]

/-- The eluent weights. -/
theorem block_1 (c : Dev nD) (t : Fin cfg0.N) : (iblk m c 1 t : Vec Ideal S10x128 .f32) = m ((c : Thread nD τ).loc main_arg3) := by
  blk_ext! [iblk, V, index_whole t]

/-- The grain weights. -/
theorem block_2 (c : Dev nD) (t : Fin cfg0.N) : (iblk m c 2 t : Vec Ideal S100x128 .f32) = m ((c : Thread nD τ).loc main_arg7) := by
  blk_ext! [iblk, V, index_whole t]

/-- The silica embedding. -/
theorem block_3 (c : Dev nD) (t : Fin cfg0.N) : (iblk m c 3 t : Vec Ideal S7x128 .f32) = m ((c : Thread nD τ).loc main_arg9) := by
  blk_ext! [iblk, V, index_whole t]

/-- The replacement embedding. -/
theorem block_4 (c : Dev nD) (t : Fin cfg0.N) : (iblk m c 4 t : Vec Ideal S11x128 .f32) = m ((c : Thread nD τ).loc main_arg10) := by
  blk_ext! [iblk, V, index_whole t]

/-- The eluent centres. -/
theorem block_5 (c : Dev nD) (t : Fin cfg0.N) : (iblk m c 5 t : Vec Ideal S1x10 .f32) = fun i => m ((c : Thread nD τ).loc main_arg1) (ix1 (i 1)) := by
  funext i
  idx_vars i
  have h := i0.isLt
  blk_ext! [iblk, V, index_whole t]

/-- The grain centres. -/
theorem block_6 (c : Dev nD) (t : Fin cfg0.N) : (iblk m c 6 t : Vec Ideal S1x100 .f32) = fun i => m ((c : Thread nD τ).loc main_arg5) (ix1 (i 1)) := by
  funext i
  idx_vars i
  have h := i0.isLt
  blk_ext! [iblk, V, index_whole t]

/-- The eluent width. -/
theorem block_7 (c : Dev nD) (t : Fin cfg0.N) : (iblk m c 7 t : Vec Ideal S1x1 .f32) = fun i => m ((c : Thread nD τ).loc main_arg2) (ix1 (i 1)) := by
  funext i
  idx_vars i
  have h := i0.isLt
  blk_ext! [iblk, V, index_whole t]

/-- The grain width. -/
theorem block_8 (c : Dev nD) (t : Fin cfg0.N) : (iblk m c 8 t : Vec Ideal S1x1 .f32) = fun i => m ((c : Thread nD τ).loc main_arg6) (ix1 (i 1)) := by
  funext i
  idx_vars i
  have h := i0.isLt
  blk_ext! [iblk, V, index_whole t]

/-- The eluent bias. -/
theorem block_9 (c : Dev nD) (t : Fin cfg0.N) : (iblk m c 9 t : Vec Ideal S1x128 .f32) = fun i => m ((c : Thread nD τ).loc main_arg4) (ix1 (i 1)) := by
  funext i
  idx_vars i
  have h := i0.isLt
  blk_ext! [iblk, V, index_whole t]

/-- The grain bias. -/
theorem block_10 (c : Dev nD) (t : Fin cfg0.N) : (iblk m c 10 t : Vec Ideal S1x128 .f32) = fun i => m ((c : Thread nD τ).loc main_arg8) (ix1 (i 1)) := by
  funext i
  idx_vars i
  have h := i0.isLt
  blk_ext! [iblk, V, index_whole t]

/-! ## The scratch arrays of the whole run -/

/-- The stacked weights of the argument arrays. -/
def stacked (c : Dev nD) : Vec Ideal S128x128 .f32 :=
  weights (m ((c : Thread nD τ).loc main_arg3)) (m ((c : Thread nD τ).loc main_arg7)) (m ((c : Thread nD τ).loc main_arg9))
    (m ((c : Thread nD τ).loc main_arg10)) (fun i => m ((c : Thread nD τ).loc main_arg4) (ix1 (i 1)))
    (fun i => m ((c : Thread nD τ).loc main_arg8) (ix1 (i 1)))

/-- The lane constants of the argument arrays. -/
def lanes (c : Dev nD) : Vec Ideal S3x128 .f32 :=
  table (fun i => m ((c : Thread nD τ).loc main_arg1) (ix1 (i 1))) (fun i => m ((c : Thread nD τ).loc main_arg5) (ix1 (i 1)))
    (fun i => m ((c : Thread nD τ).loc main_arg2) (ix1 (i 1))) (fun i => m ((c : Thread nD τ).loc main_arg6) (ix1 (i 1)))

/-- The stacked weights of any point's blocks are those of the arguments. -/
theorem weights_blocks (c : Dev nD) (t : Fin cfg0.N) :
    weights (iblk m c 1 t) (iblk m c 2 t) (iblk m c 3 t) (iblk m c 4 t) (iblk m c 9 t) (iblk m c 10 t) = stacked m c := by
  rw [block_1, block_2, block_3, block_4, block_9, block_10, stacked]
  rfl

/-- The lane constants of any point's blocks are those of the arguments. -/
theorem table_blocks (c : Dev nD) (t : Fin cfg0.N) :
    table (iblk m c 5 t) (iblk m c 6 t) (iblk m c 7 t) (iblk m c 8 t) = lanes m c := by
  rw [block_5, block_6, block_7, block_8, lanes]
  rfl

/-- After every grid point the scratch arrays hold the stacked weights and the lane constants. -/
theorem scratch (c : Dev nD) : ∀ (n : ℕ) (hn : n < cfg0.N), (outsAt0 m c n hn).2.1 = stacked m c ∧ (outsAt0 m c n hn).2.2 = lanes m c
  | 0, hn => by
    rw [outsAt0_A m c ⟨0, hn⟩ rfl]
    dsimp only
    rw [sout_A_0, sout_A_1]
    exact ⟨weights_blocks m c _, table_blocks m c _⟩
  | n + 1, hn => by
    have hN : cfg0.N = 4 := N_0
    have ih := scratch c n (Nat.lt_of_succ_lt hn)
    rw [outsAt0_B m c ⟨n + 1, hn⟩ (by dsimp only; omega)]
    exact ih

/-- What every grid point writes: the block of its condition rows, the stacked weights and the lane constants. -/
theorem written (c : Dev nD) : ∀ (n : ℕ) (hn : n < cfg0.N), (outsAt0 m c n hn).1 = blockOut (iblk m c 0 ⟨n, hn⟩) (stacked m c) (lanes m c)
  | 0, hn => by
    rw [outsAt0_A m c ⟨0, hn⟩ rfl]
    dsimp only
    rw [out_A, sout_A_0, sout_A_1, weights_blocks, table_blocks]
  | n + 1, hn => by
    have hN : cfg0.N = 4 := N_0
    have hs := scratch m c n (Nat.lt_of_succ_lt hn)
    rw [outsAt0_B m c ⟨n + 1, hn⟩ (by dsimp only; omega)]
    dsimp only
    rw [out_B]
    simp only [Nat.add_sub_cancel]
    rw [hs.1, hs.2]

/-! ## The result array -/

/-- Row `r`, column `j` of the kernel's result: the sum over the lanes of two to the lane's factor times the square of
    what the row's condition entry leaves, times the lane's weight. -/
theorem result_apply (c : Dev nD) (r : Fin 16384) (j : Fin 128) :
    (Value.G11 m c (ix2 r j) : EReal) = ∑ l : Fin 128, Ideal.exp2
      (((lanes m c (ix2 1 l) : EReal) * residue (m ((c : Thread nD τ).loc main_arg0) (ix2 r (source l))) (lanes m c (ix2 0 l)) (lanes m c (ix2 2 l)))
        * residue (m ((c : Thread nD τ).loc main_arg0) (ix2 r (source l))) (lanes m c (ix2 0 l)) (lanes m c (ix2 2 l))) * (stacked m c (ix2 l j) : EReal) := by
  have hN : cfg0.N = 4 := N_0
  have hr : r.val < 16384 := r.isLt
  have hj : j.val < 128 := j.isLt
  have hpt : Value.pt11Of (ix2 r j) = r.val / 4096 := by
    show 1 * (r.val / 4096 - 0) + 1 * (j.val / 128 - 0) = _
    omega
  have hlt : Value.pt11Of (ix2 r j) < cfg0.N := by omega
  have hloc : Value.loc11Of (ix2 r j) = ix2 (⟨r.val % 4096, by omega⟩ : Fin 4096) j := by
    funext a
    apply Fin.ext
    match a with
    | ⟨0, _⟩ => rfl
    | ⟨1, _⟩ => show j.val % 128 = j.val; omega
  unfold Value.G11
  rw [dif_pos hlt, ← Value.outsAt0_sweep m c _ hlt, written, hloc]
  refine (blockOut_apply _ _ _ _ _).trans (Finset.sum_congr (M := EReal) rfl fun l _ => ?_)
  have hrow : Value.pt11Of (ix2 r j) * 4096 + r.val % 4096 = r.val := by rw [hpt]; omega
  rw [block_0 m c ⟨_, hlt⟩ _ _ (by dsimp only; omega)]
  simp only [hrow]

end Cert.KernelIdeal.Hand

end
-- ==== Proof.Category.lean ====
/-
What the precondition says of the two category columns: each entry is a real number in its range, its floor is a row
number of the embedding, and the reference's truncation to a word is that row number.
-/
module

public import proofs.«01_k».proof.Proof.Scalars
public import Idealize.ShloMosaic.Lib.ReduceAll
public import Idealize.ShloMosaic.Lib.WordCmp

@[expose] public section

noncomputable section

namespace Cert.KernelIdeal.Hand

open Idealize.ShloMosaic Idealize.ShloMosaic.TcCoe Idealize.SL.Sem Idealize.ShloMosaic.WordCmp

/-- The category `x` names among `n`: `x` is a real number whose floor is `q`, and truncating it to a word gives `q`. -/
def IsCategory {n : ℕ} (x : EReal) (q : Fin n) : Prop :=
  ∃ y : ℝ, x = (y : EReal) ∧ ⌊y⌋ = ((q.val : ℕ) : ℤ) ∧ Ideal.fptosi 32 x = BitVec.ofNat 32 q.val

/-- An extended real at least zero and below `n` names a category. -/
theorem exists_category {n : ℕ} (hn : n < 2 ^ 31) (x : EReal) (h0 : 0 ≤ x) (h1 : x < ((n : ℝ) : EReal)) : ∃ q : Fin n, IsCategory x q := by
  induction x with
  | bot => exact absurd h0 (by simp)
  | top => exact absurd h1 (by simp)
  | coe y =>
    have hy0 : 0 ≤ y := by exact_mod_cast h0
    have hy1 : y < n := by exact_mod_cast h1
    have hf0 : 0 ≤ ⌊y⌋ := Int.floor_nonneg.mpr hy0
    have hf1 : ⌊y⌋ < (n : ℤ) := by rw [Int.floor_lt]; exact_mod_cast hy1
    refine ⟨⟨⌊y⌋.toNat, by omega⟩, y, rfl, (Int.toNat_of_nonneg hf0).symm, ?_⟩
    show BitVec.ofInt 32 (Ideal.toIntClamped _ _ (y : EReal)) = _
    rw [Ideal.toIntClamped_coe, if_pos hy0]
    have hc : max (-((2 ^ (32 - 1) : ℕ) : ℤ)) (min (((2 ^ (32 - 1) : ℕ) : ℤ) - 1) ⌊y⌋) = ((⌊y⌋.toNat : ℕ) : ℤ) := by
      rw [Int.toNat_of_nonneg hf0]
      have : ((2 ^ (32 - 1) : ℕ) : ℤ) = 2147483648 := by norm_num
      omega
    rw [hc, BitVec.ofInt_natCast]

variable [Cert.Pre_categories_in_range.Facts]

/-- Under the precondition every row's silica and replacement entries are in range. -/
theorem in_range (x : FVec Ideal Cert.Pre_categories_in_range.S16384x4 .f32) (a1 a2 a3 a4 a5 a6 a7 a8 a9 a10)
    (h : Cert.Pre_categories_in_range.fn (F := Ideal) x a1 a2 a3 a4 a5 a6 a7 a8 a9 a10 = fun _ => 1#1) (r : Fin 16384) :
    ((0 ≤ (x (ix2 r 0) : EReal) ∧ (x (ix2 r 0) : EReal) < ((7 : ℝ) : EReal)) ∧ 0 ≤ (x (ix2 r 2) : EReal)) ∧ (x (ix2 r 2) : EReal) < ((11 : ℝ) : EReal) := by
  have : Subsingleton Cert.Pre_categories_in_range.S_.Idx := ⟨fun a b => funext fun k => k.elim0⟩
  have e := congrFun h ix0
  unfold Cert.Pre_categories_in_range.fn at e
  have e' := Host.reduce_andi_all _ _ _ _ _ e (ix1 r)
  revert e'
  pointwise []
  rw [andi_ofBool, andi_ofBool, andi_ofBool, ofBool_eq_one_iff, lit_7, lit_11]
  simp only [Bool.and_eq_true, decide_eq_true_eq]
  exact id

end Cert.KernelIdeal.Hand

end
-- ==== Proof.Reference.lean ====
/-
What the reference computes, entry by entry: two radial bases times their weights with their biases, and two rows looked
up in the embeddings.
-/
module

public import proofs.«01_k».proof.Proof.Category
public import proofs.«01_k».proof.Proof.Gen.ReferenceIdeal.Run
public import Idealize.ShloMosaic.Lib.Pointwise
public import Idealize.ShloMosaic.Lib.ReduceAll
public import Idealize.ShloMosaic.Lib.Routing.Ops
public import Idealize.ShloMosaic.Lib.Tactic
public import Idealize.ShloMosaic.Lib.Tactic.CleanTypes

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen

/-! ## The lookups -/

/-- The row numbers a lookup in a table of `n` rows uses: a negative number counts from the end. -/
def rowsOf (n : BitVec 32) (w : IVec S16384 32) : IVec S16384x1 32 :=
  broadcastInDim S16384x1 ![0] bcast_S16384_S16384x1_0
    (select (cmpi .slt w (broadcastInDim S16384 ![] bcast_S_S16384 (constantI S_ 32 0#32)))
      (addi w (broadcastInDim S16384 ![] bcast_S_S16384 (constantI S_ 32 n))) w)

/-- Where a row number lies between 0 and `last`, for every column. -/
def validRows (last : BitVec 32) (k : IVec S16384x1 32) : IVec S16384x128 1 :=
  broadcastInDim S16384x128 ![0] bcast_S16384_S16384x128_0
    (Host.reduce IntOp.andi (andi (cmpi .sge k (broadcastInDim S16384x1 ![] bcast_S_S16384x1 (constantI S_ 32 0#32)))
      (cmpi .sle k (broadcastInDim S16384x1 ![0, 1] bcast_S1x1_S16384x1_0_1 (broadcastInDim S1x1 ![1] bcast_S1_S1x1_1 (constantI S1 32 last)))))
      (constantI S_ 1 1#1) reducesTo_S16384x1_S16384_d1 h_S_)

/-- The reference's lookup in the silica embedding. -/
def takeSilica (w : IVec S16384 32) (e : FVec Ideal S7x128 .f32) : FVec Ideal S16384x128 .f32 :=
  select (validRows 6#32 (rowsOf 7#32 w)) (Host.gather gather_S7x128_S16384x1_S16384x128_1_0_n_n_0_1_1128 e (rowsOf 7#32 w))
    (broadcastInDim S16384x128 ![] bcast_S_S16384x128 (constant S_ .f32 0x7FC00000#32))

/-- The reference's lookup in the replacement embedding. -/
def takeReplace (w : IVec S16384 32) (e : FVec Ideal S11x128 .f32) : FVec Ideal S16384x128 .f32 :=
  select (validRows 10#32 (rowsOf 11#32 w)) (Host.gather gather_S11x128_S16384x1_S16384x128_1_0_n_n_0_1_1128 e (rowsOf 11#32 w))
    (broadcastInDim S16384x128 ![] bcast_S_S16384x128 (constant S_ .f32 0x7FC00000#32))

/-- A row number of the table is used as it is. -/
theorem rowsOf_apply (n : BitVec 32) (w : IVec S16384 32) (r : Fin 16384) (h : IntOp.cmpi .slt (w (ix1 r)) 0#32 = 0#1) :
    rowsOf n w (ix2 r 0) = w (ix1 r) := by
  pointwise [rowsOf]
  rw [h]
  rfl

/-- Where every row number is between 0 and `last`, every entry is valid. -/
theorem validRows_apply (last : BitVec 32) (k : IVec S16384x1 32) (i : S16384x128.Idx)
    (h : ∀ r : Fin 16384, IntOp.andi (IntOp.cmpi .sge (k (ix2 r 0)) 0#32) (IntOp.cmpi .sle (k (ix2 r 0)) last) = 1#1) :
    validRows last k i = 1#1 := by
  unfold validRows broadcastInDim
  refine Host.reduce_andi_one _ _ _ _ _ rfl fun y => ?_
  idx_vars y
  obtain rfl : y1 = 0 := Subsingleton.elim _ _
  exact h y0

theorem slt_7 : ∀ q : Fin 7, IntOp.cmpi .slt (BitVec.ofNat 32 q.val) 0#32 = 0#1 := by decide
theorem between_7 : ∀ q : Fin 7, IntOp.andi (IntOp.cmpi .sge (BitVec.ofNat 32 q.val) 0#32) (IntOp.cmpi .sle (BitVec.ofNat 32 q.val) 6#32) = 1#1 := by decide
theorem slt_11 : ∀ q : Fin 11, IntOp.cmpi .slt (BitVec.ofNat 32 q.val) 0#32 = 0#1 := by decide
theorem between_11 : ∀ q : Fin 11, IntOp.andi (IntOp.cmpi .sge (BitVec.ofNat 32 q.val) 0#32) (IntOp.cmpi .sle (BitVec.ofNat 32 q.val) 10#32) = 1#1 := by decide

/-- Where every word is a row number of the silica embedding, the lookup gives that row. -/
theorem takeSilica_apply (w : IVec S16384 32) (e : FVec Ideal S7x128 .f32) (q : Fin 16384 → Fin 7)
    (hq : ∀ r, w (ix1 r) = BitVec.ofNat 32 (q r).val) (r : Fin 16384) (j : Fin 128) : takeSilica w e (ix2 r j) = e (ix2 (q r) j) := by
  have hrow : ∀ r, rowsOf 7#32 w (ix2 r 0) = BitVec.ofNat 32 (q r).val := fun r => by
    rw [rowsOf_apply _ _ _ (by rw [hq]; exact slt_7 _), hq]
  unfold takeSilica select
  rw [validRows_apply _ _ _ (fun r => by rw [hrow]; exact between_7 _), Scalar.select, if_pos (by rfl)]
  exact Routing.gather_row (nb := 7) (B := 128) (n := 16384) gather_S7x128_S16384x1_S16384x128_1_0_n_n_0_1_1128 rfl rfl rfl rfl rfl e (rowsOf 7#32 w) r j (q r) (hrow r) (by norm_num)

/-- Where every word is a row number of the replacement embedding, the lookup gives that row. -/
theorem takeReplace_apply (w : IVec S16384 32) (e : FVec Ideal S11x128 .f32) (q : Fin 16384 → Fin 11)
    (hq : ∀ r, w (ix1 r) = BitVec.ofNat 32 (q r).val) (r : Fin 16384) (j : Fin 128) : takeReplace w e (ix2 r j) = e (ix2 (q r) j) := by
  have hrow : ∀ r, rowsOf 11#32 w (ix2 r 0) = BitVec.ofNat 32 (q r).val := fun r => by
    rw [rowsOf_apply _ _ _ (by rw [hq]; exact slt_11 _), hq]
  unfold takeReplace select
  rw [validRows_apply _ _ _ (fun r => by rw [hrow]; exact between_11 _), Scalar.select, if_pos (by rfl)]
  exact Routing.gather_row (nb := 11) (B := 128) (n := 16384) gather_S11x128_S16384x1_S16384x128_1_0_n_n_0_1_1128 rfl rfl rfl rfl rfl e (rowsOf 11#32 w) r j (q r) (hrow r) (by norm_num)

/-! ## The result -/

/-- The silica column of the condition array, truncated to words. -/
def silicaWords (x : FVec Ideal S16384x4 .f32) : IVec S16384 32 :=
  fptosi 32 (shapeCast S16384 (extractStridedSlice S16384x1 ![0, 0] x slices_S16384x4_S16384x1_0_0) shapeCasts_S16384x1_S16384)
/-- The replacement column of the condition array, truncated to words. -/
def replaceWords (x : FVec Ideal S16384x4 .f32) : IVec S16384 32 :=
  fptosi 32 (shapeCast S16384 (extractStridedSlice S16384x1 ![0, 2] x slices_S16384x4_S16384x1_0_2) shapeCasts_S16384x1_S16384)

/-- A row of the silica column's words. -/
theorem silicaWords_apply (x : FVec Ideal S16384x4 .f32) (r : Fin 16384) : silicaWords x (ix1 r) = Ideal.fptosi 32 (x (ix2 r 0)) := by
  pointwise [silicaWords]
  rfl
/-- A row of the replacement column's words. -/
theorem replaceWords_apply (x : FVec Ideal S16384x4 .f32) (r : Fin 16384) : replaceWords x (ix1 r) = Ideal.fptosi 32 (x (ix2 r 2)) := by
  pointwise [replaceWords]
  rfl

/-- The reference's two radial bases times their weights, with the biases. -/
def radial (x : FVec Ideal S16384x4 .f32) (ce : FVec Ideal S10 .f32) (ge : FVec Ideal S1 .f32) (we : FVec Ideal S10x128 .f32)
    (be : FVec Ideal S128 .f32) (cg : FVec Ideal S100 .f32) (gg : FVec Ideal S1 .f32) (wg : FVec Ideal S100x128 .f32)
    (bg : FVec Ideal S128 .f32) : FVec Ideal S16384x128 .f32 :=
  (addf (addf (addf (Host.dotGeneral dot_S16384x10_S10x128_S16384x128_1_0_0_1_n_n none (Host.exp (mulf (broadcastInDim S16384x10 ![0, 1] bcast_S1x1_S16384x10_0_1 (broadcastInDim S1x1 ![1] bcast_S1_S1x1_1 (Host.negf ge))) (mulf (subf (broadcastInDim S16384x10 ![0, 1] bcast_S16384x1_S16384x10_0_1 (shapeCast _ (shapeCast _ (extractStridedSlice S16384x1 ![0, 1] x slices_S16384x4_S16384x1_0_1) shapeCasts_S16384x1_S16384) shapeCasts_S16384_S16384x1)) (broadcastInDim S16384x10 ![0, 1] bcast_S1x10_S16384x10_0_1 (shapeCast _ ce shapeCasts_S10_S1x10))) (subf (broadcastInDim S16384x10 ![0, 1] bcast_S16384x1_S16384x10_0_1 (shapeCast _ (shapeCast _ (extractStridedSlice S16384x1 ![0, 1] x slices_S16384x4_S16384x1_0_1) shapeCasts_S16384x1_S16384) shapeCasts_S16384_S16384x1)) (broadcastInDim S16384x10 ![0, 1] bcast_S1x10_S16384x10_0_1 (shapeCast _ ce shapeCasts_S10_S1x10)))))) we) (broadcastInDim S16384x128 ![0, 1] bcast_S1x128_S16384x128_0_1 (broadcastInDim S1x128 ![1] bcast_S128_S1x128_1 be))) (Host.dotGeneral dot_S16384x100_S100x128_S16384x128_1_0_0_1_n_n none (Host.exp (mulf (broadcastInDim S16384x100 ![0, 1] bcast_S1x1_S16384x100_0_1 (broadcastInDim S1x1 ![1] bcast_S1_S1x1_1 (Host.negf gg))) (mulf (subf (broadcastInDim S16384x100 ![0, 1] bcast_S16384x1_S16384x100_0_1 (shapeCast _ (shapeCast _ (extractStridedSlice S16384x1 ![0, 3] x slices_S16384x4_S16384x1_0_3) shapeCasts_S16384x1_S16384) shapeCasts_S16384_S16384x1)) (broadcastInDim S16384x100 ![0, 1] bcast_S1x100_S16384x100_0_1 (shapeCast _ cg shapeCasts_S100_S1x100))) (subf (broadcastInDim S16384x100 ![0, 1] bcast_S16384x1_S16384x100_0_1 (shapeCast _ (shapeCast _ (extractStridedSlice S16384x1 ![0, 3] x slices_S16384x4_S16384x1_0_3) shapeCasts_S16384x1_S16384) shapeCasts_S16384_S16384x1)) (broadcastInDim S16384x100 ![0, 1] bcast_S1x100_S16384x100_0_1 (shapeCast _ cg shapeCasts_S100_S1x100)))))) wg)) (broadcastInDim S16384x128 ![0, 1] bcast_S1x128_S16384x128_0_1 (broadcastInDim S1x128 ![1] bcast_S128_S1x128_1 bg)))

variable (m : (ℓ : Loc nD τ sig) → Buf (Elt Ideal) ℓ)

/-- The reference's result is the radial part plus the two lookups. -/
theorem result_eq (c : Dev nD) : Value.res_main_v44 m c =
    addf (addf (radial (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)))
      (takeSilica (silicaWords (m ((c.tc : Thread nD τ).loc main_arg0))) (m ((c.tc : Thread nD τ).loc main_arg9))))
      (takeReplace (replaceWords (m ((c.tc : Thread nD τ).loc main_arg0))) (m ((c.tc : Thread nD τ).loc main_arg10))) := rfl

/-- One entry of the radial part, in the reference's order. -/
theorem radial_apply (x : FVec Ideal S16384x4 .f32) (ce : FVec Ideal S10 .f32) (ge : FVec Ideal S1 .f32) (we : FVec Ideal S10x128 .f32)
    (be : FVec Ideal S128 .f32) (cg : FVec Ideal S100 .f32) (gg : FVec Ideal S1 .f32) (wg : FVec Ideal S100x128 .f32)
    (bg : FVec Ideal S128 .f32) (r : Fin 16384) (j : Fin 128) :
    (radial x ce ge we be cg gg wg bg (ix2 r j) : EReal) =
      ((∑ k : Fin 10, Ideal.exp (-(ge (ix1 0) : EReal) * (((x (ix2 r 1) : EReal) - ce (ix1 k)) * ((x (ix2 r 1) : EReal) - ce (ix1 k)))) * we (ix2 k j)
        + be (ix1 j))
        + ∑ k : Fin 100, Ideal.exp (-(gg (ix1 0) : EReal) * (((x (ix2 r 3) : EReal) - cg (ix1 k)) * ((x (ix2 r 3) : EReal) - cg (ix1 k)))) * wg (ix2 k j))
        + bg (ix1 j) := by
  pointwise [radial]

end Cert.ReferenceIdeal.Hand

end
-- ==== Proof.Equation.lean ====
/-
The equation between the two sides: the kernel's sum over 128 lanes is the reference's two radial sums, its biases and
its two looked-up rows.
-/
module

public import proofs.«01_k».proof.Proof.Array
public import proofs.«01_k».proof.Proof.Reference

@[expose] public section

noncomputable section

namespace Cert.KernelIdeal.Hand

open Idealize.ShloMosaic Idealize.ShloMosaic.TcCoe Idealize.SL.Sem
open Cert.KernelIdeal

section
variable (x : Fin 4 → EReal) (x5 : Vec Ideal S1x10 .f32) (x6 : Vec Ideal S1x100 .f32) (x7 x8 : Vec Ideal S1x1 .f32)

/-- Lane `l`'s feature of a condition row `x`. -/
def feature (l : Fin 128) : EReal :=
  Ideal.exp2 ((factor x7 x8 l * residue (x (source l)) (centre x5 x6 l) (onehot l)) * residue (x (source l)) (centre x5 x6 l) (onehot l))

/-- An eluent lane is a radial basis of column 1. -/
theorem feature_eluent (k : Fin 10) : feature x x5 x6 x7 x8 ⟨k.val, by omega⟩
    = Ideal.exp (-(x7 (ix2 0 0) : EReal) * ((x 1 - (x5 (ix2 0 k) : EReal)) * (x 1 - (x5 (ix2 0 k) : EReal)))) := by
  have h : k.val < 10 := k.isLt
  have h' : k.val < 110 := by omega
  simp only [feature, factor, centre, onehot, source, h, h', if_true, dite_true]
  exact radial_feature _ _ _

/-- A grain lane is a radial basis of column 3. -/
theorem feature_grain (k : Fin 100) : feature x x5 x6 x7 x8 ⟨10 + k.val, by omega⟩
    = Ideal.exp (-(x8 (ix2 0 0) : EReal) * ((x 3 - (x6 (ix2 0 k) : EReal)) * (x 3 - (x6 (ix2 0 k) : EReal)))) := by
  have h : ¬10 + k.val < 10 := by omega
  have h' : 10 + k.val < 110 := by omega
  simp only [feature, factor, centre, onehot, source, h, h', if_true, dite_true, if_false, dite_false, Nat.add_sub_cancel_left]
  exact radial_feature _ _ _

/-- A silica lane is one where its number is the category of column 0, zero elsewhere. -/
theorem feature_silica (p : Fin 7) (hp : IsCategory (x 0) p) (k : Fin 7) : feature x x5 x6 x7 x8 ⟨110 + k.val, by omega⟩
    = if ((p.val : ℕ) : ℤ) = (k.val : ℤ) then 1 else 0 := by
  have h : ¬110 + k.val < 10 := by omega
  have h' : ¬110 + k.val < 110 := by omega
  have h'' : 110 + k.val < 117 := by omega
  have hc : (((110 + k.val : ℕ) : ℝ) - 110) = (k.val : ℝ) := by push_cast; ring
  obtain ⟨y, hy, hf, -⟩ := hp
  simp only [feature, factor, centre, onehot, source, h, h', h'', if_true, if_false, dite_false, hc, hy]
  exact (onehot_feature y k.val).trans (by rw [hf])

/-- A replacement lane is one where its number is the category of column 2, zero elsewhere. -/
theorem feature_replace (q : Fin 11) (hq : IsCategory (x 2) q) (k : Fin 11) : feature x x5 x6 x7 x8 ⟨117 + k.val, by omega⟩
    = if ((q.val : ℕ) : ℤ) = (k.val : ℤ) then 1 else 0 := by
  have h : ¬117 + k.val < 10 := by omega
  have h' : ¬117 + k.val < 110 := by omega
  have h'' : ¬117 + k.val < 117 := by omega
  have hc : (((117 + k.val : ℕ) : ℝ) - 117) = (k.val : ℝ) := by push_cast; ring
  obtain ⟨y, hy, hf, -⟩ := hq
  simp only [feature, factor, centre, onehot, source, h, h', h'', if_false, dite_false, hc, hy]
  exact (onehot_feature y k.val).trans (by rw [hf])

/-- The first ten rows of the stacked weights are the eluent weights. -/
theorem weights_eluent (x1 : Vec Ideal S10x128 .f32) (x2 : Vec Ideal S100x128 .f32) (x3 : Vec Ideal S7x128 .f32)
    (x4 : Vec Ideal S11x128 .f32) (x9 x10 : Vec Ideal S1x128 .f32) (k : Fin 10) (j : Fin 128) :
    (weights x1 x2 x3 x4 x9 x10 (ix2 ⟨k.val, by omega⟩ j) : EReal) = x1 (ix2 k j) := by
  have hk : k.val < 10 := k.isLt
  pointwise [weights]

/-- The next hundred rows are the grain weights. -/
theorem weights_grain (x1 : Vec Ideal S10x128 .f32) (x2 : Vec Ideal S100x128 .f32) (x3 : Vec Ideal S7x128 .f32)
    (x4 : Vec Ideal S11x128 .f32) (x9 x10 : Vec Ideal S1x128 .f32) (k : Fin 100) (j : Fin 128) :
    (weights x1 x2 x3 x4 x9 x10 (ix2 ⟨10 + k.val, by omega⟩ j) : EReal) = x2 (ix2 k j) := by
  have hk : k.val < 100 := k.isLt
  pointwise [weights]
  rw [dif_pos (by omega)]

/-- The next seven rows are the silica embedding with both biases. -/
theorem weights_silica (x1 : Vec Ideal S10x128 .f32) (x2 : Vec Ideal S100x128 .f32) (x3 : Vec Ideal S7x128 .f32)
    (x4 : Vec Ideal S11x128 .f32) (x9 x10 : Vec Ideal S1x128 .f32) (k : Fin 7) (j : Fin 128) :
    (weights x1 x2 x3 x4 x9 x10 (ix2 ⟨110 + k.val, by omega⟩ j) : EReal) = (x3 (ix2 k j) : EReal) + ((x9 (ix2 0 j) : EReal) + (x10 (ix2 0 j) : EReal)) := by
  have hk : k.val < 7 := k.isLt
  pointwise [weights]
  rw [dif_neg (by omega), dif_pos (by omega)]

/-- The last eleven rows are the replacement embedding. -/
theorem weights_replace (x1 : Vec Ideal S10x128 .f32) (x2 : Vec Ideal S100x128 .f32) (x3 : Vec Ideal S7x128 .f32)
    (x4 : Vec Ideal S11x128 .f32) (x9 x10 : Vec Ideal S1x128 .f32) (k : Fin 11) (j : Fin 128) :
    (weights x1 x2 x3 x4 x9 x10 (ix2 ⟨117 + k.val, by omega⟩ j) : EReal) = x4 (ix2 k j) := by
  have hk : k.val < 11 := k.isLt
  pointwise [weights]
  rw [dif_neg (by omega), dif_neg (by omega)]

/-- A condition row's sum over the lanes: the two radial sums, the silica row with the biases, the replacement row. -/
theorem sum_features (x1 : Vec Ideal S10x128 .f32) (x2 : Vec Ideal S100x128 .f32) (x3 : Vec Ideal S7x128 .f32)
    (x4 : Vec Ideal S11x128 .f32) (x9 x10 : Vec Ideal S1x128 .f32) (p : Fin 7) (hp : IsCategory (x 0) p) (q : Fin 11)
    (hq : IsCategory (x 2) q) (j : Fin 128) :
    ∑ l : Fin 128, feature x x5 x6 x7 x8 l * (weights x1 x2 x3 x4 x9 x10 (ix2 l j) : EReal) =
      ((∑ k : Fin 10, Ideal.exp (-(x7 (ix2 0 0) : EReal) * ((x 1 - (x5 (ix2 0 k) : EReal)) * (x 1 - (x5 (ix2 0 k) : EReal)))) * (x1 (ix2 k j) : EReal)
        + ∑ k : Fin 100, Ideal.exp (-(x8 (ix2 0 0) : EReal) * ((x 3 - (x6 (ix2 0 k) : EReal)) * (x 3 - (x6 (ix2 0 k) : EReal)))) * (x2 (ix2 k j) : EReal))
        + ((x3 (ix2 p j) : EReal) + ((x9 (ix2 0 j) : EReal) + (x10 (ix2 0 j) : EReal)))) + (x4 (ix2 q j) : EReal) := by
  rw [sum_lanes]
  simp only [feature_eluent, feature_grain, feature_silica x x5 x6 x7 x8 p hp, feature_replace x x5 x6 x7 x8 q hq,
    weights_eluent, weights_grain, weights_silica, weights_replace]
  rw [sum_onehot p fun k => (x3 (ix2 k j) : EReal) + ((x9 (ix2 0 j) : EReal) + (x10 (ix2 0 j) : EReal)),
    sum_onehot q fun k => (x4 (ix2 k j) : EReal)]
end

end Cert.KernelIdeal.Hand

end
-- ==== Proof.Result.lean ====
/-
The result array of the kernel and that of the reference, entry by entry, and that they are equal where the two
categorical columns name rows of their tables.
-/
module

public import proofs.«01_k».proof.Proof.Equation
public import proofs.«01_k».proof.Proof.Gen.Pre_categories_in_range

@[expose] public section

noncomputable section

namespace Cert.KernelIdeal.Hand

open Idealize.ShloMosaic Idealize.ShloMosaic.TcCoe Idealize.SL.Sem
open Cert.KernelIdeal

variable (m : (ℓ : Loc nD τ sig) → Buf (Elt Ideal) ℓ)

/-- An entry of the result where the row's categories are `p` and `q`, the biases standing with the silica row: the two
    radial sums, the silica row with both biases, the replacement row. -/
def entry (x : Vec Ideal S16384x4 .f32) (ce : Vec Ideal S10 .f32) (ge : Vec Ideal S1 .f32) (we : Vec Ideal S10x128 .f32)
    (be : Vec Ideal S128 .f32) (cg : Vec Ideal S100 .f32) (gg : Vec Ideal S1 .f32) (wg : Vec Ideal S100x128 .f32)
    (bg : Vec Ideal S128 .f32) (es : Vec Ideal S7x128 .f32) (er : Vec Ideal S11x128 .f32) (r : Fin 16384) (j : Fin 128)
    (p : Fin 7) (q : Fin 11) : EReal :=
  ((∑ k : Fin 10, Ideal.exp (-(ge (ix1 0) : EReal)
        * (((x (ix2 r 1) : EReal) - (ce (ix1 k) : EReal)) * ((x (ix2 r 1) : EReal) - (ce (ix1 k) : EReal)))) * (we (ix2 k j) : EReal)
    + ∑ k : Fin 100, Ideal.exp (-(gg (ix1 0) : EReal)
        * (((x (ix2 r 3) : EReal) - (cg (ix1 k) : EReal)) * ((x (ix2 r 3) : EReal) - (cg (ix1 k) : EReal)))) * (wg (ix2 k j) : EReal))
    + ((es (ix2 p j) : EReal) + ((be (ix1 j) : EReal) + (bg (ix1 j) : EReal)))) + (er (ix2 q j) : EReal)

/-- The kernel's result at a row whose categories are `p` and `q`. -/
theorem result_row (c : Dev nD) (r : Fin 16384) (j : Fin 128) (p : Fin 7) (q : Fin 11)
    (hp : IsCategory (m ((c : Thread nD τ).loc main_arg0) (ix2 r 0)) p)
    (hq : IsCategory (m ((c : Thread nD τ).loc main_arg0) (ix2 r 2)) q) :
    (Value.G11 m c (ix2 r j) : EReal) =
      entry (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) r j p q :=
  (result_apply m c r j).trans
    (sum_features (fun k => m ((c : Thread nD τ).loc main_arg0) (ix2 r k)) (fun i => m ((c : Thread nD τ).loc main_arg1) (ix1 (i 1)))
      (fun i => m ((c : Thread nD τ).loc main_arg5) (ix1 (i 1))) (fun i => m ((c : Thread nD τ).loc main_arg2) (ix1 (i 1)))
      (fun i => m ((c : Thread nD τ).loc main_arg6) (ix1 (i 1))) _ _ _ _ _ _ p hp q hq j)

/-- Moving the biases from behind the radial sums to the silica row. -/
theorem regroup (e g be bg s t : EReal) : ((e + g) + (s + (be + bg))) + t = ((((e + be) + g) + bg) + s) + t := by
  ac_rfl

/-- The kernel's result array is the reference's, where the two categorical columns name rows of their tables. -/
theorem result_eq_reference (m' : (ℓ : Loc Cert.ReferenceIdeal.nD Cert.ReferenceIdeal.τ Cert.ReferenceIdeal.sig) → Buf (Elt Ideal) ℓ)
    (c : Dev nD) (hpre : Pre_KernelIdeal_categories_in_range m)
    (h0 : m' ((c.tc : Thread Cert.ReferenceIdeal.nD Cert.ReferenceIdeal.τ).loc Cert.ReferenceIdeal.main_arg0) = m ((c : Thread nD τ).loc main_arg0))
    (h1 : m' ((c.tc : Thread Cert.ReferenceIdeal.nD Cert.ReferenceIdeal.τ).loc Cert.ReferenceIdeal.main_arg1) = m ((c : Thread nD τ).loc main_arg1))
    (h2 : m' ((c.tc : Thread Cert.ReferenceIdeal.nD Cert.ReferenceIdeal.τ).loc Cert.ReferenceIdeal.main_arg2) = m ((c : Thread nD τ).loc main_arg2))
    (h3 : m' ((c.tc : Thread Cert.ReferenceIdeal.nD Cert.ReferenceIdeal.τ).loc Cert.ReferenceIdeal.main_arg3) = m ((c : Thread nD τ).loc main_arg3))
    (h4 : m' ((c.tc : Thread Cert.ReferenceIdeal.nD Cert.ReferenceIdeal.τ).loc Cert.ReferenceIdeal.main_arg4) = m ((c : Thread nD τ).loc main_arg4))
    (h5 : m' ((c.tc : Thread Cert.ReferenceIdeal.nD Cert.ReferenceIdeal.τ).loc Cert.ReferenceIdeal.main_arg5) = m ((c : Thread nD τ).loc main_arg5))
    (h6 : m' ((c.tc : Thread Cert.ReferenceIdeal.nD Cert.ReferenceIdeal.τ).loc Cert.ReferenceIdeal.main_arg6) = m ((c : Thread nD τ).loc main_arg6))
    (h7 : m' ((c.tc : Thread Cert.ReferenceIdeal.nD Cert.ReferenceIdeal.τ).loc Cert.ReferenceIdeal.main_arg7) = m ((c : Thread nD τ).loc main_arg7))
    (h8 : m' ((c.tc : Thread Cert.ReferenceIdeal.nD Cert.ReferenceIdeal.τ).loc Cert.ReferenceIdeal.main_arg8) = m ((c : Thread nD τ).loc main_arg8))
    (h9 : m' ((c.tc : Thread Cert.ReferenceIdeal.nD Cert.ReferenceIdeal.τ).loc Cert.ReferenceIdeal.main_arg9) = m ((c : Thread nD τ).loc main_arg9))
    (h10 : m' ((c.tc : Thread Cert.ReferenceIdeal.nD Cert.ReferenceIdeal.τ).loc Cert.ReferenceIdeal.main_arg10) = m ((c : Thread nD τ).loc main_arg10)) :
    Cert.ReferenceIdeal.Value.res_main_v44 m' c = Value.G11 m c := by
  have hrange := in_range _ _ _ _ _ _ _ _ _ _ _ (hpre c)
  have hp : ∀ r : Fin 16384, ∃ p : Fin 7, IsCategory (m ((c : Thread nD τ).loc main_arg0) (ix2 r 0)) p := fun r =>
    exists_category (by norm_num) _ (hrange r).1.1.1 (by simpa using (hrange r).1.1.2)
  have hq : ∀ r : Fin 16384, ∃ q : Fin 11, IsCategory (m ((c : Thread nD τ).loc main_arg0) (ix2 r 2)) q := fun r =>
    exists_category (by norm_num) _ (hrange r).1.2 (by simpa using (hrange r).2)
  choose p hp using hp
  choose q hq using hq
  rw [Cert.ReferenceIdeal.Hand.result_eq, h0, h1, h2, h3, h4, h5, h6, h7, h8, h9, h10]
  funext i
  idx_vars i
  have hs := Cert.ReferenceIdeal.Hand.takeSilica_apply (Cert.ReferenceIdeal.Hand.silicaWords (m ((c : Thread nD τ).loc main_arg0)))
    (m ((c : Thread nD τ).loc main_arg9)) p
    (fun r => (Cert.ReferenceIdeal.Hand.silicaWords_apply _ r).trans (hp r).choose_spec.2.2) i0 i1
  have ht := Cert.ReferenceIdeal.Hand.takeReplace_apply (Cert.ReferenceIdeal.Hand.replaceWords (m ((c : Thread nD τ).loc main_arg0)))
    (m ((c : Thread nD τ).loc main_arg10)) q
    (fun r => (Cert.ReferenceIdeal.Hand.replaceWords_apply _ r).trans (hq r).choose_spec.2.2) i0 i1
  refine Eq.trans ?_ ((result_row m c i0 i1 (p i0) (q i0) (hp i0) (hq i0)).trans (regroup _ _ _ _ _ _)).symm
  exact congrArg₂ (fun a b : EReal => a + b) (congrArg₂ (fun a b : EReal => a + b)
    (Cert.ReferenceIdeal.Hand.radial_apply _ _ _ _ _ _ _ _ _ i0 i1) hs) ht

end Cert.KernelIdeal.Hand

end
-- ==== Proof.lean ====
/-
The claims of this directory, assembled: the frames of kernel, idealized kernel and reference, the two named constants,
and the equality of the two result arrays, which `Proof.Result` proves.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_categories_in_range
public import proofs.«01_k».proof.Proof.Result
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel runs from every memory, leaves its arguments as they were and every semaphore at zero. -/
theorem kernel_frame : quiescent_Kernel := fun m ρ _ => Cert.Kernel.Gen.frame m ρ

/-- The idealized kernel runs from every memory, leaves its arguments as they were and every semaphore at zero. -/
theorem kernelIdeal_frame : quiescent_KernelIdeal := fun m ρ _ => Cert.KernelIdeal.Gen.frame m ρ

/-- The same from the memories that meet the precondition. -/
theorem kernelIdeal_frame_pre : quiescent_KernelIdeal_pre_categories_in_range := fun m ρ _ => Cert.KernelIdeal.Gen.frame m ρ

/-- The idealized reference runs from every memory, leaves its arguments as they were and every semaphore at zero. -/
theorem reference_frame : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same from the memories that meet the precondition. -/
theorem reference_frame_pre : quiescent_ReferenceIdeal_pre_categories_in_range := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two constants that the idealization names: each stands at the literal the kernel printed. -/
theorem names : preserves_Kernel_KernelIdeal :=
  ⟨IdealRules.named_const.statement Cert.KernelIdeal.κ "neg_log2e" .f32 0xBFB8AA3B#32 ((-((Real.log 2)⁻¹) : ℝ) : EReal) rfl,
   IdealRules.named_const.statement Cert.KernelIdeal.κ "mask" .f32 0xC69C4000#32 ⊥ rfl⟩

/-- From memories that agree on the arguments and whose categorical columns name rows of their tables, kernel and
    reference end with the same result array and with their arguments unchanged. -/
theorem same_result : algebraic_KernelIdeal_ReferenceIdeal_pre_categories_in_range := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  obtain ⟨h0, h1, h2, h3, h4, h5, h6, h7, h8, h9, h10⟩ := hagree c
  exact Cert.KernelIdeal.Hand.result_eq_reference m m' c hpre h0 h1 h2 h3 h4 h5 h6 h7 h8 h9 h10

/-- All the claims. -/
theorem claim : Cert.Claim := ⟨Cert.Kernel.Gen.facts, Cert.KernelIdeal.Gen.facts, Cert.ReferenceIdeal.Gen.facts, Cert.Pre_categories_in_range.Gen.facts,
  kernel_frame, kernelIdeal_frame, kernelIdeal_frame_pre, reference_frame, reference_frame_pre, names, same_result⟩

end Cert.Proof

end
